-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x4x16384 : Shape := ⟨3, ![64, 4, 16384]⟩
abbrev S64x1 : Shape := ⟨2, ![64, 1]⟩
abbrev S4x16384 : Shape := ⟨2, ![4, 16384]⟩
abbrev S1x4x16384 : Shape := ⟨3, ![1, 4, 16384]⟩
abbrev S1x4x4096 : Shape := ⟨3, ![1, 4, 4096]⟩
abbrev S64x4x4096 : Shape := ⟨3, ![64, 4, 4096]⟩
abbrev S128x128 : Shape := ⟨2, ![128, 128]⟩
abbrev S64x4x128 : Shape := ⟨3, ![64, 4, 128]⟩
abbrev S1x4x128 : Shape := ⟨3, ![1, 4, 128]⟩
abbrev S64x8x128 : Shape := ⟨3, ![64, 8, 128]⟩
abbrev S64x8x128x1 : Shape := ⟨4, ![64, 8, 128, 1]⟩

abbrev nBuf : Space → Nat
  | .hbm => 9
  | .vmem => 10
  | .smem => 0
  | _ => 0

abbrev bufTy : (tb : Table) → Fin (tcTables nBuf tb) → BufTy
  | .hbm, ⟨0, _⟩ => ⟨S64x4x16384, .f32⟩
  | .hbm, ⟨1, _⟩ => ⟨S64x4x16384, .f32⟩
  | .hbm, ⟨2, _⟩ => ⟨S64x1, .f32⟩
  | .hbm, ⟨3, _⟩ => ⟨S4x16384, .i32⟩
  | .hbm, ⟨4, _⟩ => ⟨S4x16384, .i32⟩
  | .hbm, ⟨5, _⟩ => ⟨S1x4x16384, .i32⟩
  | .hbm, ⟨6, _⟩ => ⟨S1x4x16384, .i32⟩
  | .hbm, ⟨7, _⟩ => ⟨S64x4x16384, .f32⟩
  | .hbm, ⟨8, _⟩ => ⟨S64x4x16384, .f32⟩
  | .local _ .vmem, ⟨0, _⟩ => ⟨S1x4x4096, .i32⟩
  | .local _ .vmem, ⟨1, _⟩ => ⟨S1x4x4096, .i32⟩
  | .local _ .vmem, ⟨2, _⟩ => ⟨S1x4x4096, .i32⟩
  | .local _ .vmem, ⟨3, _⟩ => ⟨S1x4x4096, .i32⟩
  | .local _ .vmem, ⟨4, _⟩ => ⟨S64x4x4096, .f32⟩
  | .local _ .vmem, ⟨5, _⟩ => ⟨S64x4x4096, .f32⟩
  | .local _ .vmem, ⟨6, _⟩ => ⟨S64x4x4096, .f32⟩
  | .local _ .vmem, ⟨7, _⟩ => ⟨S64x4x4096, .f32⟩
  | .local _ .vmem, ⟨8, _⟩ => ⟨S64x4x4096, .f32⟩
  | .local _ .vmem, ⟨9, _⟩ => ⟨S64x4x4096, .f32⟩
  | _, _ => ⟨S64x4x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, c0_i32_0.toNat, v0.toNat]

abbrev stage0_0 : Fin 2 → Memref sig .tc .vmem S1x4x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x4x16384 : Shape := ⟨3, ![64, 4, 16384]⟩
abbrev S64x1 : Shape := ⟨2, ![64, 1]⟩
abbrev S4x1024 : Shape := ⟨2, ![4, 1024]⟩
abbrev S1024 : Shape := ⟨1, ![1024]⟩
abbrev S_ : Shape := ⟨0, ![]⟩
abbrev S4x1024x1 : Shape := ⟨3, ![4, 1024, 1]⟩
abbrev S4x1024x2 : Shape := ⟨3, ![4, 1024, 2]⟩
abbrev S64x4x1024 : Shape := ⟨3, ![64, 4, 1024]⟩
abbrev S1024x1 : Shape := ⟨2, ![1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S64x4x16384, .f32⟩
  | .hbm, ⟨1, _⟩ => ⟨S64x4x16384, .f32⟩
  | .hbm, ⟨2, _⟩ => ⟨S64x1, .f32⟩
  | .hbm, ⟨3, _⟩ => ⟨S4x1024, .i32⟩
  | .hbm, ⟨4, _⟩ => ⟨S4x1024, .i1⟩
  | .hbm, ⟨5, _⟩ => ⟨S1024, .i32⟩
  | .hbm, ⟨6, _⟩ => ⟨S1024, .i1⟩
  | .hbm, ⟨7, _⟩ => ⟨S1024, .i1⟩
  | .hbm, ⟨8, _⟩ => ⟨S_, .i32⟩
  | .hbm, ⟨9, _⟩ => ⟨S4x1024, .i32⟩
  | .hbm, ⟨10, _⟩ => ⟨S4x1024, .i32⟩
  | .hbm, ⟨11, _⟩ => ⟨S4x1024, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S4x1024, .i32⟩
  | .hbm, ⟨17, _⟩ => ⟨S4x1024x1, .i32⟩
  | .hbm, ⟨18, _⟩ => ⟨S4x1024x1, .i32⟩
  | .hbm, ⟨19, _⟩ => ⟨S4x1024x2, .i32⟩
  | .hbm, ⟨20, _⟩ => ⟨S64x4x1024, .f32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S64x4x16384, .f32⟩
  | .hbm, ⟨27, _⟩ => ⟨S64x4x16384, .f32⟩
  | _, _ => ⟨S64x4x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_6 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Proof.Take.lean ====
/-
  What one chunk of the kernel computes, read at an index.

  A chunk is four rows of 128 lanes. The kernel doubles the four rows to one register of eight, looks each lane's row up
  by an index array that was doubled in the same way, and keeps the first four rows. `takeRows` is that composite of
  vector operations, and `takeRows_apply` says that it is the plain look-up among four rows as long as every index is
  below four. `reverse_apply` is the other step of a chunk: the product with the exchange matrix turns the lanes around.
-/
module

public import Idealize.ShloMosaic.Lib.Pointwise

@[expose] public section

noncomputable section

namespace Cert.Rows

open Idealize.ShloMosaic

/-- The shapes of a chunk: one index chunk, a chunk of the data, a full register of it. -/
abbrev One : Shape := ⟨3, ![1, 4, 128]⟩
abbrev Four : Shape := ⟨3, ![64, 4, 128]⟩
abbrev Eight : Shape := ⟨3, ![64, 8, 128]⟩
abbrev EightOne : Shape := ⟨4, ![64, 8, 128, 1]⟩
abbrev Exch : Shape := ⟨2, ![128, 128]⟩

variable {α : Type}

/-- The look-up through a full register: doubled data, doubled indices (a negative one counted from the end), the first
    four rows of the result. -/
def takeRows (x : Four.Idx → α) (g : IVec Four 32)
    (hc : Shape.Concatenates [Four, Four] Eight 1) (h1 : Eight.ShapeCasts EightOne) (h2 : EightOne.ShapeCasts Eight)
    (hs : Eight.Slices ![0, 0, 0] Four) : Four.Idx → α :=
  have xx : Eight.Idx → α := concatenate Eight 1 [⟨Four, x⟩, ⟨Four, x⟩] hc
  have gg : IVec Eight 32 := concatenate Eight 1 [⟨Four, g⟩, ⟨Four, g⟩] hc
  have gn : IVec Eight 32 := select (cmpi .slt gg (broadcast Eight 0#32)) (addi gg (broadcast Eight 8#32)) gg
  extractStridedSlice Four ![0, 0, 0] (dynamicGather 1 xx (shapeCast Eight (shapeCast EightOne gn h1) h2)) hs

/-- With indices below four, `takeRows` reads row `g (b, c, l)` at batch `b` and lane `l`. -/
theorem takeRows_apply (x : Four.Idx → α) (g : IVec Four 32)
    (hc : Shape.Concatenates [Four, Four] Eight 1) (h1 : Eight.ShapeCasts EightOne) (h2 : EightOne.ShapeCasts Eight)
    (hs : Eight.Slices ![0, 0, 0] Four) (b : Fin 64) (c : Fin 4) (l : Fin 128)
    (hg : (g (ix3 b c l)).toNat < 4) :
    takeRows x g hc h1 h2 hs (ix3 b c l) = x (ix3 b ⟨(g (ix3 b c l)).toNat, hg⟩ l) := by
  have hn : Scalar.select (IntOp.cmpi CmpIPredicate.slt (g (ix3 b c l)) 0#32) (IntOp.addi (g (ix3 b c l)) 8#32)
      (g (ix3 b c l)) = g (ix3 b c l) := by
    generalize g (ix3 b c l) = w at hg
    have hw : w.slt 0#32 = false := by
      rw [BitVec.slt_eq_decide, decide_eq_false_iff_not, BitVec.toInt_eq_toNat_of_lt (by omega)]
      simp
    simp [Scalar.select, IntOp.cmpi, hw]
  unfold takeRows
  pointwise
  simp only [hn, Nat.mod_eq_of_lt (show (g (ix3 b c l)).toNat < 8 by omega), hg, ↓reduceDIte]

/-- The exchange matrix: one where row and lane add up to 127, zero elsewhere. -/
def exch (h0 : Exch.Iotas .tc 32 [0]) (h1 : Exch.Iotas .tc 32 [1]) (hb : 1 < 32) : FVec Ideal Exch .f32 :=
  sitofp .f32 (extui 32 (cmpi .eq (addi (iota .tc Exch 32 [0] h0) (iota .tc Exch 32 [1] h1)) (broadcast Exch 127#32)) hb)

/-- A chunk of data times a 128 by 128 matrix, contracted over the lanes. -/
def dims (hw : DotDims.WF Four Exch Four [2] [0] [0, 1] [1] [] []) : DotDims Four Exch Four where
  lhsContracting := [2]
  rhsContracting := [0]
  lhsNonContracting := [0, 1]
  rhsNonContracting := [1]
  lhsBatch := []
  rhsBatch := []
  wf := hw

/-- The product with the exchange matrix reads lane `127 - l` at lane `l`: one term of the sum is the element itself and
    every other one is a product with zero, which is zero whatever the element is. -/
theorem reverse_apply (x : FVec Ideal Four .f32) (h0 : Exch.Iotas .tc 32 [0]) (h1 : Exch.Iotas .tc 32 [1]) (hb : 1 < 32)
    (hw : DotDims.WF Four Exch Four [2] [0] [0, 1] [1] [] []) (b : Fin 64) (c : Fin 4) (l : Fin 128) :
    matmul (dims hw) none x (exch h0 h1 hb) (constant (F := Ideal) Four .f32 0x00000000#32) (ix3 b c l)
      = x (ix3 b c l.rev) := by
  unfold exch dims
  pointwise
  have hword : ∀ k : Fin 128, IntOp.cmpi CmpIPredicate.eq (IntOp.addi (BitVec.ofNat 32 k) (BitVec.ofNat 32 l)) 127#32
      = if k = l.rev then 1#1 else 0#1 := by decide +revert +kernel
  have hone : FloatOps.sitofp (F := Ideal) FTy.f32 (BitVec.setWidth 32 1#1) = (1 : EReal) := by
    show ((((BitVec.setWidth 32 1#1).toInt : ℤ) : ℝ) : EReal) = 1
    simp
  have hzero : FloatOps.sitofp (F := Ideal) FTy.f32 (BitVec.setWidth 32 0#1) = (0 : EReal) := by
    show ((((BitVec.setWidth 32 0#1).toInt : ℤ) : ℝ) : EReal) = 0
    simp
  rw [Finset.sum_eq_single l.rev]
  · rw [hword, if_pos rfl, hone, mul_one]
  · intro k _ hk
    rw [hword, if_neg hk, hzero, mul_zero]
  · intro h
    exact absurd (Finset.mem_univ _) h

end Cert.Rows
-- ==== Proof.Body.lean ====
/-
  What one grid step of the kernel leaves in its two output windows, read at an index.

  The body stores 32 chunks into each window. Every chunk of the forward window is a look-up of the sequence's rows by the
  forward table, every chunk of the reversed window the same look-up, by the reversed table, of a chunk with its lanes
  turned around. Both facts are stated once, for a chunk at any offset, and the two windows are put together from them.
-/
module

public import proofs.«01_k».proof.Proof.Take
public import proofs.«01_k».proof.Proof.Gen.KernelIdeal.Frame

@[expose] public section

noncomputable section

namespace Cert.Body

open Idealize.ShloMosaic Cert.Rows

/-- The shapes of a block: of a table, and of the data. -/
abbrev Tab : Shape := ⟨3, ![1, 4, 4096]⟩
abbrev Blk : Shape := ⟨3, ![64, 4, 4096]⟩

/-- The forward window: row `t (c, l)` of the block at lane `l`. -/
def fwd (t : IVec Tab 32) (s : FVec Ideal Blk .f32) : FVec Ideal Blk .f32 := fun y =>
  s (ix3 (y 0) ⟨(t (ix3 0 (y 1) (y 2))).toNat % 4, Nat.mod_lt _ (by decide)⟩ (y 2))

/-- The reversed window: row `t (c, l)` of the block at the lane opposite to `l`. -/
def bwd (t : IVec Tab 32) (s : FVec Ideal Blk .f32) : FVec Ideal Blk .f32 := fun y =>
  s (ix3 (y 0) ⟨(t (ix3 0 (y 1) (y 2))).toNat % 4, Nat.mod_lt _ (by decide)⟩ (Fin.rev (n := 4096) (y 2)))

/-- A table block has an index chunk at every lane offset that leaves room for it. -/
theorem slices_tab {o : Nat} (hle : o + 128 ≤ 4096) : Tab.Slices ![0, 0, o] One := by
  refine ⟨rfl, fun a => ?_⟩
  match a with
  | ⟨0, _⟩ => exact Nat.le_refl _
  | ⟨1, _⟩ => exact Nat.le_refl _
  | ⟨2, _⟩ => exact hle

/-- So has a block of the data. -/
theorem slices_blk {o : Nat} (hle : o + 128 ≤ 4096) : Blk.Slices ![0, 0, o] Four := by
  refine ⟨rfl, fun a => ?_⟩
  match a with
  | ⟨0, _⟩ => exact Nat.le_refl _
  | ⟨1, _⟩ => exact Nat.le_refl _
  | ⟨2, _⟩ => exact hle

/-- And the rectangle at that offset lies inside the block. -/
theorem inb_blk {o : Nat} (hle : o + 128 ≤ 4096) : ∀ a, (![0, 0, o] : Fin 3 → Nat) a + Four.size a ≤ Blk.size a := fun a => by
  match a with
  | ⟨0, _⟩ => exact Nat.le_refl _
  | ⟨1, _⟩ => exact Nat.le_refl _
  | ⟨2, _⟩ => exact hle

variable (hcc : Shape.Concatenates [Four, Four] Eight 1) (h1 : Eight.ShapeCasts EightOne) (h2 : EightOne.ShapeCasts Eight)
  (hs : Eight.Slices ![0, 0, 0] Four) (ht : Tab.ShapeCasts Tab) (ho : One.ShapeCasts One) (hb : One.Broadcasts Four)
  (i0 : Exch.Iotas .tc 32 [0]) (i1 : Exch.Iotas .tc 32 [1]) (hw1 : 1 < 32)
  (hm : DotDims.WF Four Exch Four [2] [0] [0, 1] [1] [] [])

/-- The index chunk at lane offset `o` of a table block, repeated for every batch. -/
def chunkIdx (o : Nat) (hle : o + 128 ≤ 4096) (t : IVec Tab 32) : IVec Four 32 :=
  broadcastTo Four (shapeCast One (extractStridedSlice One ![0, 0, o] (shapeCast Tab t ht) (slices_tab hle)) ho) hb

theorem chunkIdx_apply (o : Nat) (hle : o + 128 ≤ 4096) (t : IVec Tab 32) (b : Fin 64) (c : Fin 4) (l : Fin 128) :
    chunkIdx ht ho hb o hle t (ix3 b c l) = t (ix3 0 c ⟨o + l.val, by omega⟩) := by
  unfold chunkIdx
  pointwise

/-- The chunk of the data at lane offset `o`. -/
def chunk (o : Nat) (hle : o + 128 ≤ 4096) (s : FVec Ideal Blk .f32) : FVec Ideal Four .f32 :=
  extractStridedSlice Four ![0, 0, o] s (slices_blk hle)

theorem chunk_apply (o : Nat) (hle : o + 128 ≤ 4096) (s : FVec Ideal Blk .f32) (b : Fin 64) (c : Fin 4) (l : Fin 128) :
    chunk o hle s (ix3 b c l) = s (ix3 b c ⟨o + l.val, by omega⟩) := by
  unfold chunk
  pointwise

/-- Element `j` of the chunk's rectangle lies `o` lanes further on. -/
theorem emb_eq (o : Nat) (hle : o + 128 ≤ 4096) (b : Fin 64) (c : Fin 4) (l : Fin 128) :
    (Rect.unit (s := Blk) ![0, 0, o] Four.size (inb_blk hle)).emb (ix3 b c l) = ix3 b c ⟨o + l.val, by omega⟩ := by
  funext a
  apply Fin.ext
  match a with
  | ⟨0, _⟩ => simp [Rect.unit, Rect.emb]
  | ⟨1, _⟩ => simp [Rect.unit, Rect.emb]
  | ⟨2, _⟩ => simp [Rect.unit, Rect.emb]

/-- A payload that is a look-up of the chunk at `o` is the forward window on that chunk's rectangle. -/
theorem fwd_piece (t : IVec Tab 32) (s : FVec Ideal Blk .f32) (hlt : ∀ i, (t i).toNat < 4) {o : Nat} (hle : o + 128 ≤ 4096)
    {w : FVec Ideal Four .f32}
    (hw : w = takeRows (chunk o hle s) (chunkIdx ht ho hb o hle t) hcc h1 h2 hs) (j : Four.Idx) :
    w j = fwd t s ((Rect.unit (s := Blk) ![0, 0, o] Four.size (inb_blk hle)).emb j) := by
  subst hw
  idx_vars j
  have hi := chunkIdx_apply ht ho hb o hle t j0 j1 j2
  have hlt' := hlt (ix3 0 j1 ⟨o + j2.val, by omega⟩)
  rw [takeRows_apply _ _ hcc h1 h2 hs j0 j1 j2 (by rw [hi]; exact hlt'), chunk_apply, emb_eq o hle]
  simp only [hi]
  unfold fwd
  pointwise
  simp only [Nat.mod_eq_of_lt hlt']

/-- A payload that is a look-up of the turned chunk at the opposite offset is the reversed window on the rectangle at `o`. -/
theorem bwd_piece (t : IVec Tab 32) (s : FVec Ideal Blk .f32) (hlt : ∀ i, (t i).toNat < 4) {o : Nat} (hle : o + 128 ≤ 4096)
    {w : FVec Ideal Four .f32}
    (hw : w = takeRows (matmul (dims hm) none (chunk (3968 - o) (by omega) s) (exch i0 i1 hw1)
        (constant (F := Ideal) Four .f32 0x00000000#32)) (chunkIdx ht ho hb o hle t) hcc h1 h2 hs) (j : Four.Idx) :
    w j = bwd t s ((Rect.unit (s := Blk) ![0, 0, o] Four.size (inb_blk hle)).emb j) := by
  subst hw
  idx_vars j
  have hi := chunkIdx_apply ht ho hb o hle t j0 j1 j2
  have hlt' := hlt (ix3 0 j1 ⟨o + j2.val, by omega⟩)
  have hrev : (⟨3968 - o + j2.rev.val, by omega⟩ : Fin 4096) = Fin.rev ⟨o + j2.val, by omega⟩ := by
    apply Fin.ext
    simp only [Fin.val_rev]
    omega
  rw [takeRows_apply _ _ hcc h1 h2 hs j0 j1 j2 (by rw [hi]; exact hlt'), reverse_apply, chunk_apply, emb_eq o hle, hrev]
  simp only [hi]
  unfold bwd
  pointwise
  simp only [Nat.mod_eq_of_lt hlt']

variable [KernelIdeal.Facts]

open KernelIdeal KernelIdeal.Gen

/-- Offsets of zero on three axes, as the constant function. -/
theorem off_zero : (![0, 0, 0] : Fin 3 → Nat) = fun _ => 0 := by
  funext a
  fin_cases a <;> rfl

set_option maxHeartbeats 400000 in
/-- What the body leaves in the forward window, the table's entries being rows. -/
theorem out_fwd (t u : IVec Tab 32) (s : FVec Ideal Blk .f32) (hlt : ∀ i, (t i).toNat < 4) :
    out0_3 (F := Ideal) t u s = fwd t s := by
  have hs : View.ld (Val := Elt Ideal) (e' := .f32) s r0_0 = s := View.ld_unit_zero off_zero _ _
  have ht : View.ld (Val := Elt Ideal) (e' := .i32) t r0_1 = t := View.ld_unit_zero off_zero _ _
  unfold_out out0_3
  rw [hs, ht]
  funext y
  refine View.canon_apply_of_pieces (Val := Elt Ideal) (e := .f32) (fwd t s) _ ?_ y (cover0_3 _ _ _ _ _ _ _ _ _ _ _ _ _ _ _ _ _ _ _ _ _ _ _ _ _ _ _ _ _ _ _ _ y)
  repeat' (refine List.forall_mem_cons.2 ⟨?_, ?_⟩)
  all_goals try dsimp only
  all_goals first
    | refine fwd_piece concatenates_S64x4x128_S64x4x128_S64x8x128_d1 shapeCasts_S64x8x128_S64x8x128x1
        shapeCasts_S64x8x128x1_S64x8x128 slices_S64x8x128_o0_0_0_S64x4x128 shapeCasts_S1x4x4096_S1x4x4096
        shapeCasts_S1x4x128_S1x4x128 broadcasts_S1x4x128_S64x4x128 t s hlt ?_ ?_ <;> [decide; exact rfl]
    | exact List.forall_mem_nil _

set_option maxHeartbeats 400000 in
/-- What it leaves in the reversed window. -/
theorem out_bwd (t u : IVec Tab 32) (s : FVec Ideal Blk .f32) (hlt : ∀ i, (u i).toNat < 4) :
    out0_4 (F := Ideal) t u s = bwd u s := by
  have hs : View.ld (Val := Elt Ideal) (e' := .f32) s r0_0 = s := View.ld_unit_zero off_zero _ _
  have hu : View.ld (Val := Elt Ideal) (e' := .i32) u r0_1 = u := View.ld_unit_zero off_zero _ _
  unfold_out out0_4
  rw [hs, hu]
  funext y
  refine View.canon_apply_of_pieces (Val := Elt Ideal) (e := .f32) (bwd u s) _ ?_ y (cover0_4 _ _ _ _ _ _ _ _ _ _ _ _ _ _ _ _ _ _ _ _ _ _ _ _ _ _ _ _ _ _ _ _ y)
  repeat' (refine List.forall_mem_cons.2 ⟨?_, ?_⟩)
  all_goals try dsimp only
  all_goals first
    | refine bwd_piece concatenates_S64x4x128_S64x4x128_S64x8x128_d1 shapeCasts_S64x8x128_S64x8x128x1
        shapeCasts_S64x8x128x1_S64x8x128 slices_S64x8x128_o0_0_0_S64x4x128 shapeCasts_S1x4x4096_S1x4x4096
        shapeCasts_S1x4x128_S1x4x128 broadcasts_S1x4x128_S64x4x128 iota_S128x128_d0_w32 iota_S128x128_d1_w32 natLt_1_32
        dot_S64x4x128_S128x128_S64x4x128_2_0_01_1_n_n_wf u s hlt ?_ ?_ <;> [decide; exact rfl]
    | exact List.forall_mem_nil _

end Cert.Body
-- ==== Proof.Tables.Basic.lean ====
/-
  The two programs' tables as functions of numbers, and the checks that relate them.

  The kernel holds two tables of 4 rows and 16384 lanes: `G` (for the forward result) and `H` (for the reversed one). The
  reference holds a permutation of the four rows for each of 1024 draws (`P`) and a position for each draw (`Q`).
  Each check is a Boolean function of one lane or of one draw; other modules of this directory evaluate it everywhere.
-/
module

public import proofs.«01_k».proof.KernelIdeal
public import proofs.«01_k».proof.ReferenceIdeal

@[expose] public section

namespace Cert.Tables

open Cert

/-- Row of the sequence that the forward result takes at row `c`, lane `l`. -/
noncomputable def G (c l : Nat) : Nat := (KernelIdeal.lit0t (16384 * c + l)).toNat
/-- Row of the lane-reversed sequence that the reversed result takes at row `c`, lane `l`. -/
noncomputable def H (c l : Nat) : Nat := (KernelIdeal.lit1t (16384 * c + l)).toNat
/-- Row that draw `k` puts at row `c`. -/
noncomputable def P (c k : Nat) : Nat := (ReferenceIdeal.lit0t (1024 * c + k)).toNat
/-- Lane of draw `k`. -/
noncomputable def Q (k : Nat) : Nat := (ReferenceIdeal.lit1t k).toNat

/-- `p` holds at every number below `n`. -/
def upto (n : Nat) (p : Nat → Bool) : Bool := Nat.rec true (fun k ih => and (p k) ih) n

theorem upto_spec {n : Nat} {p : Nat → Bool} (h : upto n p = true) : ∀ k < n, p k = true := by
  induction n with
  | zero => intro k hk; omega
  | succ n ih =>
    have h' : (p n && upto n p) = true := h
    rw [Bool.and_eq_true] at h'
    intro k hk
    rcases Nat.lt_succ_iff_lt_or_eq.1 hk with hk | rfl
    · exact ih h'.2 k hk
    · exact h'.1

/-- A check evaluated on `n` numbers from `a` on holds at each of them. -/
theorem at_of_upto {n a : Nat} {p : Nat → Bool} (h : upto n (fun j => p (a + j)) = true) {l : Nat} (h0 : a ≤ l) (h1 : l < a + n) :
    p l = true := by
  have := upto_spec h (l - a) (by omega)
  rwa [Nat.add_sub_cancel' h0] at this

theorem exists_of_upto_not {n : Nat} {p : Nat → Bool} (h : upto n (fun k => not (p k)) = false) : ∃ k < n, p k = true := by
  induction n with
  | zero => exact absurd h (by simp [upto])
  | succ n ih =>
    have h' : (not (p n) && upto n fun k => not (p k)) = false := h
    rw [Bool.and_eq_false_iff] at h'
    rcases h' with h' | h'
    · exact ⟨n, Nat.lt_succ_self n, by simpa using h'⟩
    · obtain ⟨k, hk, hp⟩ := ih h'
      exact ⟨k, Nat.lt_succ_of_lt hk, hp⟩

/-- The lanes of the first `n` draws, as the bits of one number. -/
noncomputable def mask (n : Nat) : Nat := Nat.rec 0 (fun k m => m ||| 1 <<< Q k) n

theorem mask_spec {n l : Nat} (h : (mask n).testBit l = true) : ∃ k < n, Q k = l := by
  induction n with
  | zero => exact absurd h (by simp [mask])
  | succ n ih =>
    have h' : (mask n ||| 1 <<< Q n).testBit l = true := h
    rw [Nat.testBit_or, Bool.or_eq_true] at h'
    rcases h' with h' | h'
    · obtain ⟨k, hk, hq⟩ := ih h'
      exact ⟨k, Nat.lt_succ_of_lt hk, hq⟩
    · refine ⟨n, Nat.lt_succ_self n, ?_⟩
      rw [Nat.one_shiftLeft, Nat.testBit_two_pow] at h'
      simpa using h'

/-- At lane `l`: `H` is `G` read from the other end of both axes, `G` names one of the four rows, and it keeps each row in
    place unless some draw (a bit of `m`) has this lane. -/
noncomputable def laneOK (m l : Nat) : Bool :=
  upto 4 fun c => Nat.beq (G c l) (H (3 - c) (16383 - l)) && (Nat.blt (G c l) 4 && (Nat.beq (G c l) c || m.testBit l))

/-- A draw after `k` has the lane of `k`. -/
noncomputable def later (k : Nat) : Bool := not (upto (1023 - k) fun j => not (Nat.beq (Q (k + 1 + j)) (Q k)))

/-- Draw `k`: its lane is in range, its rows are rows, and `G` holds its rows at its lane unless a later draw has that lane. -/
noncomputable def drawOK (k : Nat) : Bool :=
  Nat.blt (Q k) 16384 && ((upto 4 fun c => Nat.blt (P c k) 4) && ((upto 4 fun c => Nat.beq (G c (Q k)) (P c k)) || later k))

end Cert.Tables
-- ==== Proof.Tables.Lanes0.lean ====
/-
  The lane check on lanes 0 to 2047, evaluated in four parts.
-/
module

public import proofs.«01_k».proof.Proof.Tables.Basic

@[expose] public section

namespace Cert.Tables

/-- The lane check on the 512 lanes from 0 on. -/
theorem lanes0a : upto 512 (fun j => laneOK (mask 1024) (0 + j)) = true := by decide +kernel
/-- The lane check on the 512 lanes from 512 on. -/
theorem lanes0b : upto 512 (fun j => laneOK (mask 1024) (512 + j)) = true := by decide +kernel
/-- The lane check on the 512 lanes from 1024 on. -/
theorem lanes0c : upto 512 (fun j => laneOK (mask 1024) (1024 + j)) = true := by decide +kernel
/-- The lane check on the 512 lanes from 1536 on. -/
theorem lanes0d : upto 512 (fun j => laneOK (mask 1024) (1536 + j)) = true := by decide +kernel

/-- Every lane from 0 to 2047 passes the lane check against the lanes of all draws. -/
theorem lanes0 {l : Nat} (h0 : 0 ≤ l) (h4 : l < 2048) : laneOK (mask 1024) l = true := by
  by_cases h1 : l < 512; · exact at_of_upto lanes0a h0 (by omega)
  by_cases h2 : l < 1024; · exact at_of_upto lanes0b (by omega) (by omega)
  by_cases h3 : l < 1536; · exact at_of_upto lanes0c (by omega) (by omega)
  exact at_of_upto lanes0d (by omega) (by omega)

end Cert.Tables
-- ==== Proof.Tables.Lanes1.lean ====
/-
  The lane check on lanes 2048 to 4095, evaluated in four parts.
-/
module

public import proofs.«01_k».proof.Proof.Tables.Basic

@[expose] public section

namespace Cert.Tables

/-- The lane check on the 512 lanes from 2048 on. -/
theorem lanes1a : upto 512 (fun j => laneOK (mask 1024) (2048 + j)) = true := by decide +kernel
/-- The lane check on the 512 lanes from 2560 on. -/
theorem lanes1b : upto 512 (fun j => laneOK (mask 1024) (2560 + j)) = true := by decide +kernel
/-- The lane check on the 512 lanes from 3072 on. -/
theorem lanes1c : upto 512 (fun j => laneOK (mask 1024) (3072 + j)) = true := by decide +kernel
/-- The lane check on the 512 lanes from 3584 on. -/
theorem lanes1d : upto 512 (fun j => laneOK (mask 1024) (3584 + j)) = true := by decide +kernel

/-- Every lane from 2048 to 4095 passes the lane check against the lanes of all draws. -/
theorem lanes1 {l : Nat} (h0 : 2048 ≤ l) (h4 : l < 4096) : laneOK (mask 1024) l = true := by
  by_cases h1 : l < 2560; · exact at_of_upto lanes1a h0 (by omega)
  by_cases h2 : l < 3072; · exact at_of_upto lanes1b (by omega) (by omega)
  by_cases h3 : l < 3584; · exact at_of_upto lanes1c (by omega) (by omega)
  exact at_of_upto lanes1d (by omega) (by omega)

end Cert.Tables
-- ==== Proof.Tables.Lanes2.lean ====
/-
  The lane check on lanes 4096 to 6143, evaluated in four parts.
-/
module

public import proofs.«01_k».proof.Proof.Tables.Basic

@[expose] public section

namespace Cert.Tables

/-- The lane check on the 512 lanes from 4096 on. -/
theorem lanes2a : upto 512 (fun j => laneOK (mask 1024) (4096 + j)) = true := by decide +kernel
/-- The lane check on the 512 lanes from 4608 on. -/
theorem lanes2b : upto 512 (fun j => laneOK (mask 1024) (4608 + j)) = true := by decide +kernel
/-- The lane check on the 512 lanes from 5120 on. -/
theorem lanes2c : upto 512 (fun j => laneOK (mask 1024) (5120 + j)) = true := by decide +kernel
/-- The lane check on the 512 lanes from 5632 on. -/
theorem lanes2d : upto 512 (fun j => laneOK (mask 1024) (5632 + j)) = true := by decide +kernel

/-- Every lane from 4096 to 6143 passes the lane check against the lanes of all draws. -/
theorem lanes2 {l : Nat} (h0 : 4096 ≤ l) (h4 : l < 6144) : laneOK (mask 1024) l = true := by
  by_cases h1 : l < 4608; · exact at_of_upto lanes2a h0 (by omega)
  by_cases h2 : l < 5120; · exact at_of_upto lanes2b (by omega) (by omega)
  by_cases h3 : l < 5632; · exact at_of_upto lanes2c (by omega) (by omega)
  exact at_of_upto lanes2d (by omega) (by omega)

end Cert.Tables
-- ==== Proof.Tables.Lanes3.lean ====
/-
  The lane check on lanes 6144 to 8191, evaluated in four parts.
-/
module

public import proofs.«01_k».proof.Proof.Tables.Basic

@[expose] public section

namespace Cert.Tables

/-- The lane check on the 512 lanes from 6144 on. -/
theorem lanes3a : upto 512 (fun j => laneOK (mask 1024) (6144 + j)) = true := by decide +kernel
/-- The lane check on the 512 lanes from 6656 on. -/
theorem lanes3b : upto 512 (fun j => laneOK (mask 1024) (6656 + j)) = true := by decide +kernel
/-- The lane check on the 512 lanes from 7168 on. -/
theorem lanes3c : upto 512 (fun j => laneOK (mask 1024) (7168 + j)) = true := by decide +kernel
/-- The lane check on the 512 lanes from 7680 on. -/
theorem lanes3d : upto 512 (fun j => laneOK (mask 1024) (7680 + j)) = true := by decide +kernel

/-- Every lane from 6144 to 8191 passes the lane check against the lanes of all draws. -/
theorem lanes3 {l : Nat} (h0 : 6144 ≤ l) (h4 : l < 8192) : laneOK (mask 1024) l = true := by
  by_cases h1 : l < 6656; · exact at_of_upto lanes3a h0 (by omega)
  by_cases h2 : l < 7168; · exact at_of_upto lanes3b (by omega) (by omega)
  by_cases h3 : l < 7680; · exact at_of_upto lanes3c (by omega) (by omega)
  exact at_of_upto lanes3d (by omega) (by omega)

end Cert.Tables
-- ==== Proof.Tables.Lanes4.lean ====
/-
  The lane check on lanes 8192 to 10239, evaluated in four parts.
-/
module

public import proofs.«01_k».proof.Proof.Tables.Basic

@[expose] public section

namespace Cert.Tables

/-- The lane check on the 512 lanes from 8192 on. -/
theorem lanes4a : upto 512 (fun j => laneOK (mask 1024) (8192 + j)) = true := by decide +kernel
/-- The lane check on the 512 lanes from 8704 on. -/
theorem lanes4b : upto 512 (fun j => laneOK (mask 1024) (8704 + j)) = true := by decide +kernel
/-- The lane check on the 512 lanes from 9216 on. -/
theorem lanes4c : upto 512 (fun j => laneOK (mask 1024) (9216 + j)) = true := by decide +kernel
/-- The lane check on the 512 lanes from 9728 on. -/
theorem lanes4d : upto 512 (fun j => laneOK (mask 1024) (9728 + j)) = true := by decide +kernel

/-- Every lane from 8192 to 10239 passes the lane check against the lanes of all draws. -/
theorem lanes4 {l : Nat} (h0 : 8192 ≤ l) (h4 : l < 10240) : laneOK (mask 1024) l = true := by
  by_cases h1 : l < 8704; · exact at_of_upto lanes4a h0 (by omega)
  by_cases h2 : l < 9216; · exact at_of_upto lanes4b (by omega) (by omega)
  by_cases h3 : l < 9728; · exact at_of_upto lanes4c (by omega) (by omega)
  exact at_of_upto lanes4d (by omega) (by omega)

end Cert.Tables
-- ==== Proof.Tables.Lanes5.lean ====
/-
  The lane check on lanes 10240 to 12287, evaluated in four parts.
-/
module

public import proofs.«01_k».proof.Proof.Tables.Basic

@[expose] public section

namespace Cert.Tables

/-- The lane check on the 512 lanes from 10240 on. -/
theorem lanes5a : upto 512 (fun j => laneOK (mask 1024) (10240 + j)) = true := by decide +kernel
/-- The lane check on the 512 lanes from 10752 on. -/
theorem lanes5b : upto 512 (fun j => laneOK (mask 1024) (10752 + j)) = true := by decide +kernel
/-- The lane check on the 512 lanes from 11264 on. -/
theorem lanes5c : upto 512 (fun j => laneOK (mask 1024) (11264 + j)) = true := by decide +kernel
/-- The lane check on the 512 lanes from 11776 on. -/
theorem lanes5d : upto 512 (fun j => laneOK (mask 1024) (11776 + j)) = true := by decide +kernel

/-- Every lane from 10240 to 12287 passes the lane check against the lanes of all draws. -/
theorem lanes5 {l : Nat} (h0 : 10240 ≤ l) (h4 : l < 12288) : laneOK (mask 1024) l = true := by
  by_cases h1 : l < 10752; · exact at_of_upto lanes5a h0 (by omega)
  by_cases h2 : l < 11264; · exact at_of_upto lanes5b (by omega) (by omega)
  by_cases h3 : l < 11776; · exact at_of_upto lanes5c (by omega) (by omega)
  exact at_of_upto lanes5d (by omega) (by omega)

end Cert.Tables
-- ==== Proof.Tables.Lanes6.lean ====
/-
  The lane check on lanes 12288 to 14335, evaluated in four parts.
-/
module

public import proofs.«01_k».proof.Proof.Tables.Basic

@[expose] public section

namespace Cert.Tables

/-- The lane check on the 512 lanes from 12288 on. -/
theorem lanes6a : upto 512 (fun j => laneOK (mask 1024) (12288 + j)) = true := by decide +kernel
/-- The lane check on the 512 lanes from 12800 on. -/
theorem lanes6b : upto 512 (fun j => laneOK (mask 1024) (12800 + j)) = true := by decide +kernel
/-- The lane check on the 512 lanes from 13312 on. -/
theorem lanes6c : upto 512 (fun j => laneOK (mask 1024) (13312 + j)) = true := by decide +kernel
/-- The lane check on the 512 lanes from 13824 on. -/
theorem lanes6d : upto 512 (fun j => laneOK (mask 1024) (13824 + j)) = true := by decide +kernel

/-- Every lane from 12288 to 14335 passes the lane check against the lanes of all draws. -/
theorem lanes6 {l : Nat} (h0 : 12288 ≤ l) (h4 : l < 14336) : laneOK (mask 1024) l = true := by
  by_cases h1 : l < 12800; · exact at_of_upto lanes6a h0 (by omega)
  by_cases h2 : l < 13312; · exact at_of_upto lanes6b (by omega) (by omega)
  by_cases h3 : l < 13824; · exact at_of_upto lanes6c (by omega) (by omega)
  exact at_of_upto lanes6d (by omega) (by omega)

end Cert.Tables
-- ==== Proof.Tables.Lanes7.lean ====
/-
  The lane check on lanes 14336 to 16383, evaluated in four parts.
-/
module

public import proofs.«01_k».proof.Proof.Tables.Basic

@[expose] public section

namespace Cert.Tables

/-- The lane check on the 512 lanes from 14336 on. -/
theorem lanes7a : upto 512 (fun j => laneOK (mask 1024) (14336 + j)) = true := by decide +kernel
/-- The lane check on the 512 lanes from 14848 on. -/
theorem lanes7b : upto 512 (fun j => laneOK (mask 1024) (14848 + j)) = true := by decide +kernel
/-- The lane check on the 512 lanes from 15360 on. -/
theorem lanes7c : upto 512 (fun j => laneOK (mask 1024) (15360 + j)) = true := by decide +kernel
/-- The lane check on the 512 lanes from 15872 on. -/
theorem lanes7d : upto 512 (fun j => laneOK (mask 1024) (15872 + j)) = true := by decide +kernel

/-- Every lane from 14336 to 16383 passes the lane check against the lanes of all draws. -/
theorem lanes7 {l : Nat} (h0 : 14336 ≤ l) (h4 : l < 16384) : laneOK (mask 1024) l = true := by
  by_cases h1 : l < 14848; · exact at_of_upto lanes7a h0 (by omega)
  by_cases h2 : l < 15360; · exact at_of_upto lanes7b (by omega) (by omega)
  by_cases h3 : l < 15872; · exact at_of_upto lanes7c (by omega) (by omega)
  exact at_of_upto lanes7d (by omega) (by omega)

end Cert.Tables
-- ==== Proof.Tables.Draws0.lean ====
/-
  The draw check on draws 0 to 511, evaluated.
-/
module

public import proofs.«01_k».proof.Proof.Tables.Basic

@[expose] public section

namespace Cert.Tables

/-- Every draw from 0 to 511 passes the draw check. -/
theorem draws0 : upto 512 (fun j => drawOK (0 + j)) = true := by decide +kernel

end Cert.Tables
-- ==== Proof.Tables.Draws1.lean ====
/-
  The draw check on draws 512 to 1023, evaluated.
-/
module

public import proofs.«01_k».proof.Proof.Tables.Basic

@[expose] public section

namespace Cert.Tables

/-- Every draw from 512 to 1023 passes the draw check. -/
theorem draws1 : upto 512 (fun j => drawOK (512 + j)) = true := by decide +kernel

end Cert.Tables
-- ==== Proof.Tables.lean ====
/-
  What the evaluated checks say about the tables, lane by lane and draw by draw.
-/
module

public import proofs.«01_k».proof.Proof.Tables.Lanes0
public import proofs.«01_k».proof.Proof.Tables.Lanes1
public import proofs.«01_k».proof.Proof.Tables.Lanes2
public import proofs.«01_k».proof.Proof.Tables.Lanes3
public import proofs.«01_k».proof.Proof.Tables.Lanes4
public import proofs.«01_k».proof.Proof.Tables.Lanes5
public import proofs.«01_k».proof.Proof.Tables.Lanes6
public import proofs.«01_k».proof.Proof.Tables.Lanes7
public import proofs.«01_k».proof.Proof.Tables.Draws0
public import proofs.«01_k».proof.Proof.Tables.Draws1

@[expose] public section

namespace Cert.Tables

/-- The lane check holds at every lane. -/
theorem lane {l : Nat} (hl : l < 16384) : laneOK (mask 1024) l = true := by
  by_cases h1 : l < 2048; · exact lanes0 (by omega) (by omega)
  by_cases h2 : l < 4096; · exact lanes1 (by omega) (by omega)
  by_cases h3 : l < 6144; · exact lanes2 (by omega) (by omega)
  by_cases h4 : l < 8192; · exact lanes3 (by omega) (by omega)
  by_cases h5 : l < 10240; · exact lanes4 (by omega) (by omega)
  by_cases h6 : l < 12288; · exact lanes5 (by omega) (by omega)
  by_cases h7 : l < 14336; · exact lanes6 (by omega) (by omega)
  exact lanes7 (by omega) (by omega)

/-- The draw check holds at every draw. -/
theorem draw {k : Nat} (hk : k < 1024) : drawOK k = true := by
  by_cases h : k < 512
  · exact at_of_upto draws0 (by omega) (by omega)
  · exact at_of_upto draws1 (by omega) (by omega)

/-- The three parts of the lane check, as statements. -/
theorem lane_row {c l : Nat} (hc : c < 4) (hl : l < 16384) :
    G c l = H (3 - c) (16383 - l) ∧ G c l < 4 ∧ (G c l = c ∨ (mask 1024).testBit l = true) := by
  have h := upto_spec (lane hl) c hc
  simpa only [Bool.and_eq_true, Bool.or_eq_true, Nat.beq_eq, Nat.blt_eq] using h

/-- The reversed table is the forward one read from the other end of both axes. -/
theorem H_eq {c l : Nat} (hc : c < 4) (hl : l < 16384) : H c l = G (3 - c) (16383 - l) := by
  have h := (lane_row (c := 3 - c) (l := 16383 - l) (by omega) (by omega)).1
  rw [h]
  congr 1 <;> omega

/-- Every entry of the forward table is a row. -/
theorem G_lt {c l : Nat} (hc : c < 4) (hl : l < 16384) : G c l < 4 := (lane_row hc hl).2.1

/-- Every entry of the reversed table is a row. -/
theorem H_lt {c l : Nat} (hc : c < 4) (hl : l < 16384) : H c l < 4 := by
  rw [H_eq hc hl]; exact G_lt (by omega) (by omega)

/-- At a lane that no draw has, the forward table keeps every row in place. -/
theorem G_keep {c l : Nat} (hc : c < 4) (hl : l < 16384) (h : ∀ k < 1024, Q k ≠ l) : G c l = c := by
  rcases (lane_row hc hl).2.2 with h' | h'
  · exact h'
  · obtain ⟨k, hk, hq⟩ := mask_spec h'
    exact absurd hq (h k hk)

/-- The lane of a draw is a lane. -/
theorem Q_lt {k : Nat} (hk : k < 1024) : Q k < 16384 := by
  have h := draw hk
  simp only [drawOK, Bool.and_eq_true, Nat.blt_eq] at h
  exact h.1

/-- A draw's rows are rows. -/
theorem P_lt {c k : Nat} (hc : c < 4) (hk : k < 1024) : P c k < 4 := by
  have h := draw hk
  simp only [drawOK, Bool.and_eq_true] at h
  simpa only [Nat.blt_eq] using upto_spec h.2.1 c hc

/-- At the lane of a draw that no later draw repeats, the forward table holds that draw's rows. -/
theorem G_draw {c k : Nat} (hc : c < 4) (hk : k < 1024) (h : ∀ k' < 1024, k < k' → Q k' ≠ Q k) : G c (Q k) = P c k := by
  have hd := draw hk
  simp only [drawOK, Bool.and_eq_true, Bool.or_eq_true] at hd
  rcases hd.2.2 with h' | h'
  · simpa only [Nat.beq_eq] using upto_spec h' c hc
  · obtain ⟨j, hj, hq⟩ := exists_of_upto_not (n := 1023 - k) (p := fun j => Nat.beq (Q (k + 1 + j)) (Q k))
      (by simpa only [later, Bool.not_eq_true'] using h')
    exact absurd (Nat.beq_eq ▸ hq) (h (k + 1 + j) (by omega) (by omega))

end Cert.Tables
-- ==== Proof.Look.lean ====
/-
  The two results as look-ups of the argument: what both programs are shown to return.
-/
module

public import proofs.«01_k».proof.Proof.Tables
public import Idealize.ShloMosaic.Lib.Pointwise

@[expose] public section

noncomputable section

namespace Cert.Look

open Idealize.ShloMosaic Cert.Tables

/-- The sequence array. -/
abbrev Arr : Shape := ⟨3, ![64, 4, 16384]⟩

/-- Every lane taken from the row the forward table names. -/
def straight (x : FVec Ideal Arr .f32) : FVec Ideal Arr .f32 := fun i =>
  x (ix3 (i 0) ⟨G (i 1).val (i 2).val % 4, Nat.mod_lt _ (by decide)⟩ (i 2))

/-- Every lane taken from the opposite lane, of the row the reversed table names. -/
def turned (x : FVec Ideal Arr .f32) : FVec Ideal Arr .f32 := fun i =>
  x (ix3 (i 0) ⟨H (i 1).val (i 2).val % 4, Nat.mod_lt _ (by decide)⟩ (Fin.rev (n := 16384) (i 2)))

/-- `straight` at an index whose coordinates are given as numbers. -/
theorem straight_eq (x : FVec Ideal Arr .f32) (i : Arr.Idx) (b : Fin 64) (r : Fin 4) (l : Fin 16384)
    (hb : (i 0).val = b.val) (hr : r.val = G (i 1).val (i 2).val % 4) (hl : (i 2).val = l.val) :
    x (ix3 b r l) = straight x i := by
  have e0 : i 0 = b := Fin.ext hb
  have e1 : (⟨G (i 1).val (i 2).val % 4, Nat.mod_lt _ (by decide)⟩ : Fin 4) = r := Fin.ext hr.symm
  have e2 : i 2 = l := Fin.ext hl
  unfold straight
  rw [e0, e1, e2]

/-- `turned` at an index whose coordinates are given as numbers. -/
theorem turned_eq (x : FVec Ideal Arr .f32) (i : Arr.Idx) (b : Fin 64) (r : Fin 4) (l : Fin 16384)
    (hb : (i 0).val = b.val) (hr : r.val = H (i 1).val (i 2).val % 4) (hl : (i 2).val + l.val = 16383) :
    x (ix3 b r l) = turned x i := by
  have e0 : i 0 = b := Fin.ext hb
  have e1 : (⟨H (i 1).val (i 2).val % 4, Nat.mod_lt _ (by decide)⟩ : Fin 4) = r := Fin.ext hr.symm
  have e2 : Fin.rev (n := 16384) (i 2) = l := Fin.ext (by
    show 16384 - ((i 2).val + 1) = l.val
    omega)
  unfold turned
  rw [e0, e1, e2]

/-- The second look-up is the first with its rows and its lanes in opposite order. -/
theorem turned_eq_reverse (x : FVec Ideal Arr .f32) : Host.reverse [1, 2] (straight x) = turned x := by
  funext i
  idx_vars i
  have e : Host.reverse [1, 2] (straight x) (ix3 i0 i1 i2) = straight x (ix3 i0 i1.rev i2.rev) := by
    refine congrArg (straight x) (funext fun a => ?_)
    match a with
    | ⟨0, _⟩ => rfl
    | ⟨1, _⟩ => rfl
    | ⟨2, _⟩ => rfl
  have hc := i1.isLt
  have hl := i2.isLt
  refine e.trans ((straight_eq x (ix3 i0 i1.rev i2.rev) i0 ⟨H i1.val i2.val % 4, Nat.mod_lt _ (by decide)⟩ i2.rev rfl ?_ rfl).symm.trans
    (turned_eq x (ix3 i0 i1 i2) _ _ _ rfl rfl ?_))
  · show H i1.val i2.val % 4 = G i1.rev.val i2.rev.val % 4
    rw [H_eq hc hl, Fin.val_rev, Fin.val_rev, show 4 - (i1.val + 1) = 3 - i1.val by omega,
      show 16384 - (i2.val + 1) = 16383 - i2.val by omega]
  · show i2.val + i2.rev.val = 16383
    rw [Fin.val_rev]
    omega

end Cert.Look
-- ==== Proof.Words.lean ====
/-
  The two tables as the kernel's call finds them in memory: printed constants, reshaped to one leading axis more.
-/
module

public import proofs.«01_k».proof.Proof.Tables
public import proofs.«01_k».proof.Proof.Body

@[expose] public section

noncomputable section

namespace Cert.Words

open Idealize.ShloMosaic Idealize.ShloMosaic.TcCoe Cert.Tables Cert.KernelIdeal Cert.KernelIdeal.Gen

/-- Where an element of a table sits in row-major order. -/
theorem place (i : S1x4x16384.Idx) :
    (S4x16384.rowMajor (Shape.reshapeEquiv shapeCasts_S4x16384_S1x4x16384 i)).val = 16384 * (i 1).val + (i 2).val := by
  simp only [reshapeIdx]
  rw [show (S4x16384.rowMajor (ix2 (i 1) (i 2)) : Nat) = _ from rowMajor_val2 (ix2 (i 1) (i 2)) 16384 rfl]
  show (i 1).val * 16384 + (i 2).val = _
  omega

/-- The first printed table at a place of it. -/
theorem lit0_at (k : Fin 65536) : lit0 k = lit0t k.val := by
  cases k
  unfold lit0
  with_reducible rfl

/-- The second printed table at a place of it. -/
theorem lit1_at (k : Fin 65536) : lit1 k = lit1t k.val := by
  cases k
  unfold lit1
  with_reducible rfl

variable (m : (ℓ : Loc nD τ sig) → Buf (Elt Ideal) ℓ)

/-- The forward table as the kernel's call finds it. -/
theorem table_fwd (c : Dev nD) (i : S1x4x16384.Idx) :
    (V m c main_v0 i : BitVec 32).toNat = G (i 1).val (i 2).val := by
  have h : (V m c main_v0 i : BitVec 32) = lit0 (S4x16384.rowMajor (Shape.reshapeEquiv shapeCasts_S4x16384_S1x4x16384 i)) := by
    show (StableHlo.after hostOps0 (fun b => m (c, b)) (Proc.devRef .tc main_v0) i : BitVec 32) = _
    unfold hostOps0
    after_results
    generalize lit0 = f
    rfl
  have h' := congrArg BitVec.toNat (h.trans (lit0_at (S4x16384.rowMajor (Shape.reshapeEquiv shapeCasts_S4x16384_S1x4x16384 i))))
  rw [place] at h'
  unfold G
  exact h'

/-- The reversed table as the kernel's call finds it. -/
theorem table_bwd (c : Dev nD) (i : S1x4x16384.Idx) :
    (V m c main_v1 i : BitVec 32).toNat = H (i 1).val (i 2).val := by
  have h : (V m c main_v1 i : BitVec 32) = lit1 (S4x16384.rowMajor (Shape.reshapeEquiv shapeCasts_S4x16384_S1x4x16384 i)) := by
    show (StableHlo.after hostOps0 (fun b => m (c, b)) (Proc.devRef .tc main_v1) i : BitVec 32) = _
    unfold hostOps0
    after_results
    generalize lit1 = f
    rfl
  have h' := congrArg BitVec.toNat (h.trans (lit1_at (S4x16384.rowMajor (Shape.reshapeEquiv shapeCasts_S4x16384_S1x4x16384 i))))
  rw [place] at h'
  unfold H
  exact h'

end Cert.Words
-- ==== Proof.Arrays.lean ====
/-
  The kernel's two result arrays, read at an index.

  Grid step `j` writes lane block `j` of the first result and lane block `3 - j` of the second; together the four steps
  write every element. What a step leaves in its two windows is in Body.lean, a look-up by blocks of the two tables; here
  the blocks are put in their places in the whole arrays.
-/
module

public import proofs.«01_k».proof.Proof.Body
public import proofs.«01_k».proof.Proof.Look
public import proofs.«01_k».proof.Proof.Words
public import proofs.«01_k».proof.Proof.Gen.KernelIdeal.Value
public import Idealize.ShloMosaic.Lib.Pipeline.ValueKit

@[expose] public section

noncomputable section

namespace Cert.Arrays

open Idealize.ShloMosaic Idealize.ShloMosaic.TcCoe Cert.Tables Cert.Look Cert.Words Cert.Body Cert.KernelIdeal Cert.KernelIdeal.Gen

variable (m : (ℓ : Loc nD τ sig) → Buf (Elt Ideal) ℓ)

/-- On every axis, the block of the forward table at step `j` is lane block `j`. -/
theorem idx_0 : ∀ t : Fin cfg0.N, win0_0.index t = ![0, 0, (grid0.coords t 0).val] :=
  (by decide +kernel : ∀ t : Fin grid0.N, _)
/-- Of the reversed table it is lane block `3 - j`, -/
theorem idx_1 : ∀ t : Fin cfg0.N, win0_1.index t = ![0, 0, 3 - (grid0.coords t 0).val] :=
  (by decide +kernel : ∀ t : Fin grid0.N, _)
/-- of the sequence lane block `j`, -/
theorem idx_2 : ∀ t : Fin cfg0.N, win0_2.index t = ![0, 0, (grid0.coords t 0).val] :=
  (by decide +kernel : ∀ t : Fin grid0.N, _)
/-- of the first result lane block `j`, -/
theorem idx_3 : ∀ t : Fin cfg0.N, win0_3.index t = ![0, 0, (grid0.coords t 0).val] :=
  (by decide +kernel : ∀ t : Fin grid0.N, _)
/-- and of the second lane block `3 - j`. -/
theorem idx_4 : ∀ t : Fin cfg0.N, win0_4.index t = ![0, 0, 3 - (grid0.coords t 0).val] :=
  (by decide +kernel : ∀ t : Fin grid0.N, _)

/-- A grid step is one of four. -/
theorem step_lt (t : Fin cfg0.N) : (grid0.coords t 0).val < 4 := (grid0.coords t 0).isLt

/-- An entry of the forward table's block at step `j`. -/
theorem block_fwd (c : Dev nD) (t : Fin cfg0.N) (z : Tab.Idx) :
    (iblk m c 0 t z : BitVec 32).toNat = G (z 1).val ((grid0.coords t 0).val * 4096 + (z 2).val) := by
  blk_simp [iblk]
  refine (table_fwd m c _).trans ?_
  blk_simp [idx_0]

/-- An entry of the reversed table's block at step `j`. -/
theorem block_bwd (c : Dev nD) (t : Fin cfg0.N) (z : Tab.Idx) :
    (iblk m c 1 t z : BitVec 32).toNat = H (z 1).val ((3 - (grid0.coords t 0).val) * 4096 + (z 2).val) := by
  blk_simp [iblk]
  refine (table_bwd m c _).trans ?_
  blk_simp [idx_1]

/-- An entry of the sequence's block at step `j`, the lane in the whole array given. -/
theorem block_seq (c : Dev nD) (t : Fin cfg0.N) (b : Fin 64) (r : Fin 4) (l : Fin 4096) (l' : Fin 16384)
    (h : l'.val = (grid0.coords t 0).val * 4096 + l.val) :
    iblk m c 2 t (ix3 b r l) = m ((c : Thread nD τ).loc main_arg0) (ix3 b r l') := by
  blk_simp [iblk]
  refine (congrFun (V_main_arg0 m c) _).trans (congrArg _ ?_)
  blk_ext [idx_2]

/-- Every entry of the forward table's block names a row. -/
theorem fwd_lt (c : Dev nD) (t : Fin cfg0.N) (z : Tab.Idx) : (iblk m c 0 t z : BitVec 32).toNat < 4 := by
  have := step_lt t
  have h2 : (z 2).val < 4096 := (z 2).isLt
  exact (block_fwd m c t z).trans_lt (G_lt (z 1).isLt (by omega))

/-- So does every entry of the reversed table's block. -/
theorem bwd_lt (c : Dev nD) (t : Fin cfg0.N) (z : Tab.Idx) : (iblk m c 1 t z : BitVec 32).toNat < 4 := by
  have := step_lt t
  have h2 : (z 2).val < 4096 := (z 2).isLt
  exact (block_bwd m c t z).trans_lt (H_lt (z 1).isLt (by omega))

/-- The first result array after the run. -/
theorem first (c : Dev nD) : (dats m 0 c).arrAt 3 cfg0.N = straight (m ((c : Thread nD τ).loc main_arg0)) := by
  refine (dats m 0 c).arrAt_eq_of_covers 3 _ (by decide +kernel) fun t hf y => ?_
  blk_simp
  rw [after0_3, out_fwd (iblk m c 0 t) (iblk m c 1 t) (iblk m c 2 t) (fwd_lt m c t)]
  have e0 : ((win0_3.blk t).view.emb y 0 : Nat) = (y 0).val := by blk_simp [idx_3]
  have e1 : ((win0_3.blk t).view.emb y 1 : Nat) = (y 1).val := by blk_simp [idx_3]
  have e2 : ((win0_3.blk t).view.emb y 2 : Nat) = (grid0.coords t 0).val * 4096 + (y 2).val := by blk_simp [idx_3]
  refine (block_seq m c t _ _ _ ((win0_3.blk t).view.emb y 2) e2).trans (straight_eq _ _ _ _ _ e0 ?_ rfl)
  show (iblk m c 0 t (ix3 0 (y 1) (y 2)) : BitVec 32).toNat % 4 = _
  rw [block_fwd, e1, e2]
  rfl

/-- The second result array after the run. -/
theorem second (c : Dev nD) : (dats m 0 c).arrAt 4 cfg0.N = turned (m ((c : Thread nD τ).loc main_arg0)) := by
  refine (dats m 0 c).arrAt_eq_of_covers 4 _ (by decide +kernel) fun t hf y => ?_
  blk_simp
  rw [after0_4, out_bwd (iblk m c 0 t) (iblk m c 1 t) (iblk m c 2 t) (bwd_lt m c t)]
  have ht := step_lt t
  have hy : (y 2).val < 4096 := (y 2).isLt
  have e0 : ((win0_4.blk t).view.emb y 0 : Nat) = (y 0).val := by blk_simp [idx_4]
  have e1 : ((win0_4.blk t).view.emb y 1 : Nat) = (y 1).val := by blk_simp [idx_4]
  have e2 : ((win0_4.blk t).view.emb y 2 : Nat) = (3 - (grid0.coords t 0).val) * 4096 + (y 2).val := by blk_simp [idx_4]
  have hl : (grid0.coords t 0).val * 4096 + (4095 - (y 2).val) < 16384 := by omega
  refine (block_seq m c t _ _ _ ⟨(grid0.coords t 0).val * 4096 + (4095 - (y 2).val), hl⟩ ?_).trans
    (turned_eq _ _ _ _ _ e0 ?_ ?_)
  · show _ = _ + (Fin.rev (n := 4096) (y 2)).val
    show _ + (4095 - (y 2).val) = _ + (4096 - ((y 2).val + 1))
    omega
  · show (iblk m c 1 t (ix3 0 (y 1) (y 2)) : BitVec 32).toNat % 4 = _
    rw [block_bwd, e1, e2]
    rfl
  · rw [e2]
    show (3 - (grid0.coords t 0).val) * 4096 + (y 2).val + ((grid0.coords t 0).val * 4096 + (4095 - (y 2).val)) = _
    omega

end Cert.Arrays
-- ==== Proof.Draws.lean ====
/-
  What the reference computes, read at an index.

  The reference gathers, for every draw, the four rows of the drawn lane in the drawn order, and writes them back at that
  lane, one draw after another, so that of two draws of one lane the later one stays. `set_apply` says that this is one
  look-up in any table of rows that keeps the rows of a lane without a draw and holds, at the lane of a draw, the rows of
  the last such draw.
-/
module

public import Idealize.ShloMosaic.Lib.Pointwise
public import Idealize.ShloMosaic.Lib.Routing.OpsPair

@[expose] public section

noncomputable section

namespace Cert.Draws

open Idealize.ShloMosaic

/-- The sequence, the draws' rows and lanes, the index arrays built from them, and the gathered rows. -/
abbrev Seq : Shape := ⟨3, ![64, 4, 16384]⟩
abbrev Lanes : Shape := ⟨1, ![1024]⟩
abbrev LanesOne : Shape := ⟨2, ![1024, 1]⟩
abbrev Rows : Shape := ⟨2, ![4, 1024]⟩
abbrev RowsOne : Shape := ⟨3, ![4, 1024, 1]⟩
abbrev RowsTwo : Shape := ⟨3, ![4, 1024, 2]⟩
abbrev Got : Shape := ⟨3, ![64, 4, 1024]⟩

variable {α : Type}

/-- A fold in which some steps overwrite the value ends at `v`, if every overwriting step writes `v` or is followed by
    another one, and if `v` is the start where there is none. -/
theorem foldl_last {N : Nat} (hit : Fin N → Prop) [DecidablePred hit] (u : Fin N → α) (v : α) :
    ∀ (L : List (Fin N)) (_ : L.Pairwise (· < ·)) (a : α) (_ : ∀ n ∈ L, hit n → u n = v ∨ ∃ n' ∈ L, n < n' ∧ hit n')
      (_ : (∀ n ∈ L, ¬ hit n) → a = v), L.foldl (fun a n => if hit n then u n else a) a = v
  | [], _, a, _, h0 => h0 fun _ h => absurd h List.not_mem_nil
  | n :: L, hL, a, h1, h0 => by
    obtain ⟨hn, hL⟩ := List.pairwise_cons.1 hL
    refine foldl_last hit u v L hL _ (fun m hm hh => ?_) fun hno => ?_
    · rcases h1 m (List.mem_cons_of_mem _ hm) hh with h | ⟨m', hm', hlt, hh'⟩
      · exact .inl h
      · rcases List.mem_cons.1 hm' with rfl | hm'
        · exact absurd (hn m hm) (lt_asymm hlt)
        · exact .inr ⟨m', hm', hlt, hh'⟩
    · show (if hit n then u n else a) = v
      by_cases hh : hit n
      · rw [if_pos hh]
        rcases h1 n List.mem_cons_self hh with h | ⟨m', hm', hlt, hh'⟩
        · exact h
        · rcases List.mem_cons.1 hm' with rfl | hm'
          · exact absurd hlt (lt_irrefl _)
          · exact absurd hh' (hno m' hm')
      · rw [if_neg hh]
        refine h0 fun m hm => ?_
        rcases List.mem_cons.1 hm with rfl | hm
        · exact hh
        · exact hno m hm

/-- A word below 2¹⁵ reads the same signed and unsigned. -/
theorem toInt_of_lt {w : BitVec 32} {n : Nat} (h : w.toNat < n) (hn : n ≤ 16384) : w.toInt = (w.toNat : Int) :=
  BitVec.toInt_eq_toNat_of_lt (by omega)

/-- The dimension numbers of the reference's write at the drawn lanes. -/
def setDims (hw : ScatterDims.WF Seq LanesOne Got [0, 1] [2] [2] 1) : ScatterDims Seq LanesOne Got where
  updateWindowDims := [0, 1]
  insertedWindowDims := [2]
  scatterDimsToOperandDims := [2]
  indexVectorDim := 1
  wf := hw

/-- The dimension numbers of the reference's read of the drawn rows at the drawn lanes. -/
def getDims (hw : GatherDims.WF Seq RowsTwo Got [0] [1, 2] [] [1, 2] [] 2 ![64, 1, 1]) : GatherDims Seq RowsTwo Got where
  offsetDims := [0]
  collapsedSliceDims := [1, 2]
  operandBatchingDims := []
  startIndicesBatchingDims := []
  startIndexMap := [1, 2]
  indexVectorDim := 2
  sliceSizes := ![64, 1, 1]
  wf := hw

/-- Draw `k'` of row `c'` and batch `b'` is written at `(b, c, l)` exactly when batch and row agree and its lane is `l`. -/
theorem lands (hw : ScatterDims.WF Seq LanesOne Got [0, 1] [2] [2] 1) (idx : IVec LanesOne 32)
    (b b' : Fin 64) (c c' : Fin 4) (k' : Fin 1024) (l : Fin 16384) :
    (setDims hw).resultIdx? (ix3 b' c' k') idx = some (ix3 b c l)
      ↔ b' = b ∧ c' = c ∧ (idx (ix2 k' 0)).toInt = (l.val : Int) := by
  have s0 : (setDims hw).start (ix3 b' c' k') idx 0 = 0 := rfl
  have s1 : (setDims hw).start (ix3 b' c' k') idx 1 = 0 := rfl
  have s2 : (setDims hw).start (ix3 b' c' k') idx 2 = (idx (ix2 k' 0)).toInt := by
    show (idx ((setDims hw).siIdx (ix3 b' c' k') ⟨0, _⟩)).toInt = _
    congr 2
    funext a
    match a with
    | ⟨0, _⟩ => rfl
    | ⟨1, _⟩ => rfl
  have w0 : (setDims hw).window (ix3 b' c' k') 0 = b'.val := rfl
  have w1 : (setDims hw).window (ix3 b' c' k') 1 = c'.val := rfl
  have w2 : (setDims hw).window (ix3 b' c' k') 2 = 0 := rfl
  rw [Routing.resultIdx?_eq_some]
  constructor
  · intro h
    have h0 : _ = (b.val : Int) := h 0
    have h1 : _ = (c.val : Int) := h 1
    have h2 : _ = (l.val : Int) := h 2
    rw [s0, w0] at h0
    rw [s1, w1] at h1
    rw [s2, w2] at h2
    exact ⟨Fin.ext (by omega), Fin.ext (by omega), by omega⟩
  · rintro ⟨rfl, rfl, h⟩ a
    match a with
    | ⟨0, _⟩ => exact Int.zero_add _
    | ⟨1, _⟩ => exact Int.zero_add _
    | ⟨2, _⟩ => exact (Int.add_zero _).trans (s2 ▸ h)

/-- The gathered row `c` of draw `k` is the sequence's row `rows (c, k)` at lane `lanes (c, k)`. -/
theorem get_apply (hw : GatherDims.WF Seq RowsTwo Got [0] [1, 2] [] [1, 2] [] 2 ![64, 1, 1]) (x : Seq.Idx → α)
    (idx : IVec RowsTwo 32) (b : Fin 64) (c r : Fin 4) (k : Fin 1024) (l : Fin 16384)
    (hr : (idx (ix3 c k 0)).toInt = (r.val : Int)) (hl : (idx (ix3 c k 1)).toInt = (l.val : Int)) :
    Host.gather (getDims hw) x idx (ix3 b c k) = x (ix3 b r l) := by
  have e0 : (getDims hw).siIdx (ix3 b c k) ⟨0, show 0 < 2 by decide⟩ = ix3 c k 0 := by
    funext a
    match a with
    | ⟨0, _⟩ => rfl
    | ⟨1, _⟩ => rfl
    | ⟨2, _⟩ => rfl
  have e1 : (getDims hw).siIdx (ix3 b c k) ⟨1, show 1 < 2 by decide⟩ = ix3 c k 1 := by
    funext a
    match a with
    | ⟨0, _⟩ => rfl
    | ⟨1, _⟩ => rfl
    | ⟨2, _⟩ => rfl
  have s1 : (getDims hw).start (ix3 b c k) idx 1 = r.val := by
    show min (idx ((getDims hw).siIdx (ix3 b c k) ⟨0, _⟩)).toInt.toNat (4 - 1) = _
    rw [e0, hr]
    omega
  have s2 : (getDims hw).start (ix3 b c k) idx 2 = l.val := by
    show min (idx ((getDims hw).siIdx (ix3 b c k) ⟨1, _⟩)).toInt.toNat (16384 - 1) = _
    rw [e1, hl]
    omega
  show x ((getDims hw).operandIdx (ix3 b c k) idx) = _
  congr 1
  funext a
  apply Fin.ext
  match a with
  | ⟨0, _⟩ => exact Nat.zero_add _
  | ⟨1, _⟩ => exact s1
  | ⟨2, _⟩ => exact s2

/-- Row-major positions of two draws of one row and batch are in the order of the draws. -/
theorem position_lt {b : Fin 64} {c : Fin 4} {k k' : Fin 1024} (h : k < k') :
    Got.rowMajor (ix3 b c k) < Got.rowMajor (ix3 b c k') := by
  rw [Fin.lt_def, rowMajor_val3 (ix3 b c k) 4096 1024 rfl rfl, rowMajor_val3 (ix3 b c k') 4096 1024 rfl rfl]
  exact Nat.add_lt_add_left (show k.val < k'.val from h) _

/-- The reference's two steps read at `(b, c, l)`: row `row c l` of the sequence at lane `l`. `rows (c, k)` is the row that
    draw `k` puts at row `c` and `lanes k` its lane; `row` keeps the rows of a lane that no draw has, and holds the rows
    of a draw that no later draw repeats. -/
theorem set_apply (hs : ScatterDims.WF Seq LanesOne Got [0, 1] [2] [2] 1)
    (hg : GatherDims.WF Seq RowsTwo Got [0] [1, 2] [] [1, 2] [] 2 ![64, 1, 1])
    (x : Seq.Idx → α) (at_ : IVec LanesOne 32) (from_ : IVec RowsTwo 32)
    (rows : Fin 4 → Fin 1024 → Fin 4) (lanes : Fin 1024 → Fin 16384) (row : Fin 4 → Fin 16384 → Fin 4)
    (ha : ∀ k, (at_ (ix2 k 0)).toInt = ((lanes k).val : Int))
    (hf0 : ∀ c k, (from_ (ix3 c k 0)).toInt = ((rows c k).val : Int))
    (hf1 : ∀ c k, (from_ (ix3 c k 1)).toInt = ((lanes k).val : Int))
    (hkeep : ∀ c l, (∀ k, lanes k ≠ l) → row c l = c)
    (hdraw : ∀ c k, (∀ k', k < k' → lanes k' ≠ lanes k) → row c (lanes k) = rows c k)
    (b : Fin 64) (c : Fin 4) (l : Fin 16384) :
    Host.scatter (setDims hs) (fun _ v => v) x at_ (Host.gather (getDims hg) x from_) (ix3 b c l)
      = x (ix3 b (row c l) l) := by
  rw [Routing.scatter_at]
  have hit : ∀ n : Fin Got.numel, (setDims hs).resultIdx? (Got.rowMajor.symm n) at_ = some (ix3 b c l) →
      ∃ k, Got.rowMajor.symm n = ix3 b c k ∧ lanes k = l := by
    intro n hn
    generalize Got.rowMajor.symm n = j at hn
    idx_vars j
    obtain ⟨rfl, rfl, h⟩ := (lands hs at_ _ _ _ _ _ _).1 hn
    rw [ha] at h
    exact ⟨_, rfl, Fin.ext (by omega)⟩
  have hit' : ∀ k, lanes k = l → (setDims hs).resultIdx? (Got.rowMajor.symm (Got.rowMajor (ix3 b c k))) at_ = some (ix3 b c l) := by
    intro k hk
    rw [Equiv.symm_apply_apply]
    exact (lands hs at_ _ _ _ _ _ _).2 ⟨rfl, rfl, by rw [ha, hk]⟩
  refine foldl_last (N := Got.numel) (fun n => (setDims hs).resultIdx? (Got.rowMajor.symm n) at_ = some (ix3 b c l))
    (fun n => Host.gather (getDims hg) x from_ (Got.rowMajor.symm n)) _ (List.finRange Got.numel)
    (List.pairwise_lt_finRange Got.numel) _ (fun n _ hn => ?_) fun hno => ?_
  · obtain ⟨k, hj, rfl⟩ := hit n hn
    by_cases hl : ∃ k', k < k' ∧ lanes k' = lanes k
    · obtain ⟨k', hlt, hk'⟩ := hl
      refine .inr ⟨Got.rowMajor (ix3 b c k'), List.mem_finRange _, ?_, hit' k' hk'⟩
      rw [show n = Got.rowMajor (ix3 b c k) by rw [← hj, Equiv.apply_symm_apply]]
      exact position_lt hlt
    · refine .inl ?_
      rw [hj, get_apply hg x from_ b c (rows c k) k (lanes k) (hf0 c k) (hf1 c k),
        hdraw c k fun k' hlt he => hl ⟨k', hlt, he⟩]
  · rw [hkeep c l fun k hk => hno _ (List.mem_finRange _) (hit' k hk)]

end Cert.Draws
-- ==== Proof.Result.lean ====
/-
  What the reference returns, read at an index: the same look-ups that the kernel's two result arrays are.
-/
module

public import proofs.«01_k».proof.Proof.Draws
public import proofs.«01_k».proof.Proof.Look
public import proofs.«01_k».proof.Proof.Gen.ReferenceIdeal.Run

@[expose] public section

noncomputable section

namespace Cert.Result

open Idealize.ShloMosaic Cert.Tables Cert.Look Cert.Draws Cert.ReferenceIdeal Cert.ReferenceIdeal.Gen

/-- The draws' lanes as the scatter's index array, from the table `f` of lanes. -/
def lanesAt (f : Fin 1024 → BitVec 32) : IVec LanesOne 32 :=
  broadcastInDim S1024x1 ![0] bcast_S1024_S1024x1_0 (select (constantI S1024 1 0#1)
    (addi (fun i => f (S1024.rowMajor i)) (broadcastInDim S1024 ![] bcast_S_S1024 (constantI S_ 32 16384#32)))
    (fun i => f (S1024.rowMajor i)))

/-- The draws' rows and lanes as the gather's index array, from the tables `f` of lanes and `g` of rows. -/
def rowsFrom (f : Fin 1024 → BitVec 32) (g : Fin 4096 → BitVec 32) : IVec RowsTwo 32 :=
  concatenate S4x1024x2 2
    [⟨S4x1024x1, broadcastInDim S4x1024x1 ![0, 1] bcast_S4x1024_S4x1024x1_0_1 (select (constantI S4x1024 1 0#1)
        (addi (fun i => g (S4x1024.rowMajor i)) (broadcastInDim S4x1024 ![] bcast_S_S4x1024 (constantI S_ 32 4#32)))
        (fun i => g (S4x1024.rowMajor i)))⟩,
      ⟨S4x1024x1, broadcastInDim S4x1024x1 ![0, 1] bcast_S4x1024_S4x1024x1_0_1 (broadcastInDim S4x1024 ![1]
        bcast_S1024_S4x1024_1 (select (constantI S1024 1 0#1)
          (addi (fun i => f (S1024.rowMajor i)) (broadcastInDim S1024 ![] bcast_S_S1024 (constantI S_ 32 16384#32)))
          (fun i => f (S1024.rowMajor i))))⟩]
    concatenates_S4x1024x1_S4x1024x1_S4x1024x2_d2

/-- The scatter's index of a draw is the draw's lane. -/
theorem lanesAt_apply (f : Fin 1024 → BitVec 32) (k : Fin 1024) : lanesAt f (ix2 k 0) = f (S1024.rowMajor (ix1 k)) := by
  unfold lanesAt
  pointwise

/-- The gather's first index of a draw at a row is the drawn row, -/
theorem rowsFrom_zero (f : Fin 1024 → BitVec 32) (g : Fin 4096 → BitVec 32) (c : Fin 4) (k : Fin 1024) :
    rowsFrom f g (ix3 c k 0) = g (S4x1024.rowMajor (ix2 c k)) := by
  unfold rowsFrom
  pointwise

/-- and its second is the draw's lane. -/
theorem rowsFrom_one (f : Fin 1024 → BitVec 32) (g : Fin 4096 → BitVec 32) (c : Fin 4) (k : Fin 1024) :
    rowsFrom f g (ix3 c k 1) = f (S1024.rowMajor (ix1 k)) := by
  unfold rowsFrom
  pointwise

/-- A printed table at a place of it. -/
theorem lit0_at (k : Fin 4096) : lit0 k = lit0t k.val := by
  cases k
  unfold lit0
  with_reducible rfl

/-- A printed table at a place of it. -/
theorem lit1_at (k : Fin 1024) : lit1 k = lit1t k.val := by
  cases k
  unfold lit1
  with_reducible rfl

/-- The word of a draw's lane. -/
theorem lane_word (k : Fin 1024) : (lit1 (S1024.rowMajor (ix1 k)) : BitVec 32).toNat = Q k.val := by
  have h := congrArg BitVec.toNat (lit1_at (S1024.rowMajor (ix1 k)))
  rw [show (S1024.rowMajor (ix1 k) : Nat) = k.val from rowMajor_val1 (ix1 k)] at h
  unfold Q
  exact h

/-- The word of a draw's row. -/
theorem row_word (c : Fin 4) (k : Fin 1024) : (lit0 (S4x1024.rowMajor (ix2 c k)) : BitVec 32).toNat = P c.val k.val := by
  have h := congrArg BitVec.toNat (lit0_at (S4x1024.rowMajor (ix2 c k)))
  rw [show (S4x1024.rowMajor (ix2 c k) : Nat) = 1024 * c.val + k.val from
    (rowMajor_val2 (ix2 c k) 1024 rfl).trans (by show c.val * 1024 + k.val = _; omega)] at h
  unfold P
  exact h

/-- The reference's first result: draws gathered from `x` and written back. -/
theorem scattered (x : FVec Ideal Arr .f32) :
    Host.scatter scatter_S64x4x16384_S1024x1_S64x4x1024_01_2_2_1 (fun _ b => b) x (lanesAt lit1)
      (Host.gather gather_S64x4x16384_S4x1024x2_S64x4x1024_0_12_n_n_12_2_6411 x (rowsFrom lit1 lit0)) = straight x := by
  funext i
  idx_vars i
  have hq := lane_word
  have hp := row_word
  refine (set_apply scatter_S64x4x16384_S1024x1_S64x4x1024_01_2_2_1_wf gather_S64x4x16384_S4x1024x2_S64x4x1024_0_12_n_n_12_2_6411_wf x (lanesAt lit1) (rowsFrom lit1 lit0)
    (fun c k => ⟨P c.val k.val, P_lt c.isLt k.isLt⟩) (fun k => ⟨Q k.val, Q_lt k.isLt⟩)
    (fun c l => ⟨G c.val l.val, G_lt c.isLt l.isLt⟩) ?_ ?_ ?_ ?_ ?_ i0 i1 i2).trans ?_
  · intro k
    rw [lanesAt_apply, toInt_of_lt ((hq k).trans_lt (Q_lt k.isLt)) (by decide), hq]
  · intro c k
    rw [rowsFrom_zero, toInt_of_lt ((hp c k).trans_lt (P_lt c.isLt k.isLt)) (by decide), hp]
  · intro c k
    rw [rowsFrom_one, toInt_of_lt ((hq k).trans_lt (Q_lt k.isLt)) (by decide), hq]
  · intro c l h
    exact Fin.ext (G_keep c.isLt l.isLt fun k hk hkl => h ⟨k, hk⟩ (Fin.ext hkl))
  · intro c k h
    exact Fin.ext (G_draw c.isLt k.isLt fun k' hk' hlt hkk => h ⟨k', hk'⟩ hlt (Fin.ext hkk))
  · exact straight_eq x _ _ _ _ rfl (Nat.mod_eq_of_lt (G_lt i1.isLt i2.isLt)).symm rfl

end Cert.Result
-- ==== Proof.lean ====
/-
  The proof of the certificate's claims: the frames of the kernel as printed, of the kernel over the extended reals and of
  the reference, and that kernel and reference return equal results from equal arguments. The mathematics is in the
  modules of Proof/; this one puts it together.
-/
module

public import proofs.«01_k».proof.Defs
public import proofs.«01_k».proof.Proof.Arrays
public import proofs.«01_k».proof.Proof.Result
public import proofs.«01_k».proof.Proof.Gen.Kernel.Frame
public import Idealize.ShloMosaic.Lib.Quiescent

@[expose] public section

noncomputable section

namespace Cert.Proof

open Idealize.ShloMosaic Idealize.SL.Sem Cert.Look

/-- The reference runs, leaves its arguments and, having no semaphores, leaves every counter at zero. -/
theorem reference_frame : quiescent_ReferenceIdeal (hReferenceIdeal := Cert.ReferenceIdeal.Gen.facts) := fun m g _ =>
  (θ_run Cert.ReferenceIdeal.defs _ _).mono
    (fun r h => ⟨fun c => (h c).2.2.2, sem_eq_zero_of_no_sems rfl r.2⟩)
    (Cert.ReferenceIdeal.Value.run (F := Ideal) m g)

/-- The kernel's run, its results as look-ups of its first argument. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem (c.tc.loc Cert.KernelIdeal.main_v2_0) = straight (m (c.tc.loc Cert.KernelIdeal.main_arg0))
        ∧ r.2.mem (c.tc.loc Cert.KernelIdeal.main_v2_1) = turned (m (c.tc.loc Cert.KernelIdeal.main_arg0))
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)) :=
  (θ_run Cert.KernelIdeal.defs _ _).mono
    (fun _ h c => ⟨(h c).1.trans (Arrays.first m c), (h c).2.1.trans (Arrays.second m c), (h c).2.2⟩)
    (Cert.KernelIdeal.Value.run_blocks m g)

/-- The reference's run, its results as the same look-ups. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem (c.tc.loc Cert.ReferenceIdeal.main_v15) = straight (m (c.tc.loc Cert.ReferenceIdeal.main_arg0))
        ∧ r.2.mem (c.tc.loc Cert.ReferenceIdeal.main_v16) = turned (m (c.tc.loc Cert.ReferenceIdeal.main_arg0))
        ∧ r.2.mem (c.tc.loc Cert.ReferenceIdeal.main_arg2) = m (c.tc.loc Cert.ReferenceIdeal.main_arg2)
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)) :=
  (θ_run Cert.ReferenceIdeal.defs _ _).mono
    (fun _ h c => ⟨(h c).1.trans (Result.scattered _),
      (h c).2.1.trans ((congrArg (Host.reverse [1, 2]) (Result.scattered _)).trans (turned_eq_reverse _)), (h c).2.2⟩)
    (Cert.ReferenceIdeal.Value.run (F := Ideal) m g)

/-- From equal arguments, kernel and reference return equal results. -/
theorem results_equal : algebraic_KernelIdeal_ReferenceIdeal (hKernelIdeal := Cert.KernelIdeal.Gen.facts)
    (hReferenceIdeal := Cert.ReferenceIdeal.Gen.facts) := fun m g m' g' _ hargs =>
  ⟨fun c => straight (m (c.tc.loc Cert.KernelIdeal.main_arg0)), fun c => turned (m (c.tc.loc Cert.KernelIdeal.main_arg0)),
    fun c => m (c.tc.loc Cert.KernelIdeal.main_arg2),
    (θ_run Cert.KernelIdeal.defs _ _).mono
      (fun _ h c => ⟨(h c).1, (h c).2.1, (h c).2.2.2.2, (h c).2.2⟩) (kernel_run m g),
    (θ_run Cert.ReferenceIdeal.defs _ _).mono
      (fun _ h c => ⟨(h c).1.trans (congrArg straight (hargs c).1), (h c).2.1.trans (congrArg turned (hargs c).1),
        (h c).2.2.1.trans (hargs c).2.2, (h c).2.2.2⟩) (reference_run m' g')⟩

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    results_equal⟩

end Cert.Proof
